-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_head_is_finite [hPre_head_is_finite : Cert.Pre_head_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_head_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_head_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_head_is_finite [hPre_head_is_finite : Cert.Pre_head_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_head_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_head_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_head_is_finite [hKernelIdeal : Cert.KernelIdeal.Facts] [hPre_head_is_finite : Cert.Pre_head_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_head_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_head_is_finite [hReferenceIdeal : Cert.ReferenceIdeal.Facts] [hPre_head_is_finite : Cert.Pre_head_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_head_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_head_is_finite [hKernelIdeal : Cert.KernelIdeal.Facts] [hReferenceIdeal : Cert.ReferenceIdeal.Facts] [hPre_head_is_finite : Cert.Pre_head_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_head_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_head_is_finite : Cert.Pre_head_is_finite.Facts),
    quiescent_Kernel (hKernel := hKernel)
    ∧ quiescent_KernelIdeal (hKernelIdeal := hKernelIdeal)
    ∧ quiescent_KernelIdeal_pre_head_is_finite (hKernelIdeal := hKernelIdeal) (hPre_head_is_finite := hPre_head_is_finite)
    ∧ quiescent_ReferenceIdeal (hReferenceIdeal := hReferenceIdeal)
    ∧ quiescent_ReferenceIdeal_pre_head_is_finite (hReferenceIdeal := hReferenceIdeal) (hPre_head_is_finite := hPre_head_is_finite)
    ∧ preserves_Kernel_KernelIdeal
    ∧ algebraic_KernelIdeal_ReferenceIdeal_pre_head_is_finite (hKernelIdeal := hKernelIdeal) (hReferenceIdeal := hReferenceIdeal) (hPre_head_is_finite := hPre_head_is_finite)
-- ==== Pre_head_is_finite.lean ====
abbrev S32768x512 : Shape := ⟨2, ![32768, 512]⟩
abbrev S32768 : Shape := ⟨1, ![32768]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S256x1 : S_.BroadcastsInDim S256x1 (![] : Fin 0 → Fin S256x1.rank)
  bcast_S_S1 : S_.BroadcastsInDim S1 (![] : Fin 0 → Fin S1.rank)

variable [Facts]

def fn {F : FTy → Type} [FloatOps F] (main_arg0 : FVec F S32768x512 .f32) (main_arg1 : IVec S32768 32) (main_arg2 : FVec F S512x256 .f32) (main_arg3 : FVec F S256 .f32) (main_arg4 : FVec F S256x1 .f32) (main_arg5 : FVec F S1 .f32) : IVec S256x1 1 × IVec S1 1 :=
  let main_v0 : FVec F S256x1 .f32 := Host.absf main_arg4
  let main_cst : FVec F S_ .f32 := constant S_ .f32 0x7F800000#32
  let main_v1 : FVec F S256x1 .f32 := broadcastInDim S256x1 ![] bcast_S_S256x1 main_cst
  let main_v2 : IVec S256x1 1 := cmpf .olt main_v0 main_v1
  let main_v3 : FVec F S1 .f32 := Host.absf main_arg5
  let main_cst_0 : FVec F S_ .f32 := constant S_ .f32 0x7F800000#32
  let main_v4 : FVec F S1 .f32 := broadcastInDim S1 ![] bcast_S_S1 main_cst_0
  let main_v5 : IVec S1 1 := cmpf .olt main_v3 main_v4
  (main_v2, main_v5)
-- ==== Kernel.lean ====
abbrev S32768x512 : Shape := ⟨2, ![32768, 512]⟩
abbrev S32768 : Shape := ⟨1, ![32768]⟩
abbrev S512x256 : Shape := ⟨2, ![512, 256]⟩
abbrev S256 : Shape := ⟨1, ![256]⟩
abbrev S256x1 : Shape := ⟨2, ![256, 1]⟩
abbrev S1 : Shape := ⟨1, ![1]⟩
abbrev S4x1x8192 : Shape := ⟨3, ![4, 1, 8192]⟩
abbrev S_ : Shape := ⟨0, ![]⟩
abbrev S1x1 : Shape := ⟨2, ![1, 1]⟩
abbrev S16x1 : Shape := ⟨2, ![16, 1]⟩
abbrev S1x256 : Shape := ⟨2, ![1, 256]⟩
abbrev S16x256 : Shape := ⟨2, ![16, 256]⟩
abbrev S16x512 : Shape := ⟨2, ![16, 512]⟩
abbrev S8192x512 : Shape := ⟨2, ![8192, 512]⟩
abbrev S1x1x8192 : Shape := ⟨3, ![1, 1, 8192]⟩
abbrev S16x4096 : Shape := ⟨2, ![16, 4096]⟩
abbrev S4096x512 : Shape := ⟨2, ![4096, 512]⟩
abbrev S4096x256 : Shape := ⟨2, ![4096, 256]⟩
abbrev S1x1x4096 : Shape := ⟨3, ![1, 1, 4096]⟩
abbrev S1x4096 : Shape := ⟨2, ![1, 4096]⟩
abbrev S16 : Shape := ⟨1, ![16]⟩

abbrev nBuf : Space → Nat
  | .hbm => 20
  | .vmem => 11
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S4x1x8192, .i32⟩
  | .hbm, ⟨7, _⟩ => ⟨S256x1, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S1x1, .f32⟩
  | .hbm, ⟨13, _⟩ => ⟨S16x1, .f32⟩
  | .hbm, ⟨14, _⟩ => ⟨S256x1, .bf16⟩
  | .hbm, ⟨15, _⟩ => ⟨S1x256, .bf16⟩
  | .hbm, ⟨16, _⟩ => ⟨S16x256, .bf16⟩
  | .hbm, ⟨17, _⟩ => ⟨S512x256, .bf16⟩
  | .hbm, ⟨18, _⟩ => ⟨S1x256, .f32⟩
  | .hbm, ⟨19, _⟩ => ⟨S16x512, .f32⟩
  | .local _ .vmem, ⟨0, _⟩ => ⟨S8192x512, .f32⟩
  | .local _ .vmem, ⟨1, _⟩ => ⟨S8192x512, .f32⟩
  | .local _ .vmem, ⟨2, _⟩ => ⟨S1x1x8192, .i32⟩
  | .local _ .vmem, ⟨3, _⟩ => ⟨S1x1x8192, .i32⟩
  | .local _ .vmem, ⟨4, _⟩ => ⟨S512x256, .bf16⟩
  | .local _ .vmem, ⟨5, _⟩ => ⟨S1x256, .f32⟩
  | .local _ .vmem, ⟨6, _⟩ => ⟨S16x256, .bf16⟩
  | .local _ .vmem, ⟨7, _⟩ => ⟨S16x1, .f32⟩
  | .local _ .vmem, ⟨8, _⟩ => ⟨S16x512, .f32⟩
  | .local _ .vmem, ⟨9, _⟩ => ⟨S16x1, .f32⟩
  | .local _ .vmem, ⟨10, _⟩ => ⟨S16x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v68 : BitVec 1 := Scalar.cmpi .eq arg0 c3_i32
  let v69 : BitVec 32 := Scalar.extui v68
  let c0_i32_35 : BitVec 32 := 0#32
  let v70 : BitVec 1 := Scalar.cmpi .ne v69 c0_i32_35
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32768x512 : Shape := ⟨2, ![32768, 512]⟩
abbrev S32768 : Shape := ⟨1, ![32768]⟩
abbrev S512x256 : Shape := ⟨2, ![512, 256]⟩
abbrev S256 : Shape := ⟨1, ![256]⟩
abbrev S256x1 : Shape := ⟨2, ![256, 1]⟩
abbrev S1 : Shape := ⟨1, ![1]⟩
abbrev S32768x256 : Shape := ⟨2, ![32768, 256]⟩
abbrev S1x256 : Shape := ⟨2, ![1, 256]⟩
abbrev S32768x1 : Shape := ⟨2, ![32768, 1]⟩
abbrev S1x1 : Shape := ⟨2, ![1, 1]⟩
abbrev S16 : Shape := ⟨1, ![16]⟩
abbrev S1x16 : Shape := ⟨2, ![1, 16]⟩
abbrev S32768x16 : Shape := ⟨2, ![32768, 16]⟩
abbrev S_ : Shape := ⟨0, ![]⟩
abbrev S16x1 : Shape := ⟨2, ![16, 1]⟩
abbrev S16x512 : Shape := ⟨2, ![16, 512]⟩

abbrev nBuf : Space → Nat
  | .hbm => 68
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S32768x256, .f32⟩
  | .hbm, ⟨7, _⟩ => ⟨S1x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S32768x1, .f32⟩
  | .hbm, ⟨12, _⟩ => ⟨S1x1, .f32⟩
  | .hbm, ⟨13, _⟩ => ⟨S32768x1, .f32⟩
  | .hbm, ⟨14, _⟩ => ⟨S32768x1, .f32⟩
  | .hbm, ⟨15, _⟩ => ⟨S32768x1, .i32⟩
  | .hbm, ⟨16, _⟩ => ⟨S16, .i32⟩
  | .hbm, ⟨17, _⟩ => ⟨S1x16, .i32⟩
  | .hbm, ⟨18, _⟩ => ⟨S32768x16, .i32⟩
  | .hbm, ⟨19, _⟩ => ⟨S32768x16, .i32⟩
  | .hbm, ⟨20, _⟩ => ⟨S32768x16, .i1⟩
  | .hbm, ⟨21, _⟩ => ⟨S_, .f32⟩
  | .hbm, ⟨22, _⟩ => ⟨S_, .f32⟩
  | .hbm, ⟨23, _⟩ => ⟨S32768x16, .f32⟩
  | .hbm, ⟨24, _⟩ => ⟨S32768x16, .f32⟩
  | .hbm, ⟨25, _⟩ => ⟨S32768x16, .f32⟩
  | .hbm, ⟨26, _⟩ => ⟨S_, .f32⟩
  | .hbm, ⟨27, _⟩ => ⟨S16, .f32⟩
  | .hbm, ⟨28, _⟩ => ⟨S16x1, .f32⟩
  | .hbm, ⟨29, _⟩ => ⟨S16x1, .f32⟩
  | .hbm, ⟨30, _⟩ => ⟨S_, .f32⟩
  | .hbm, ⟨31, _⟩ => ⟨S16x1, .f32⟩
  | .hbm, ⟨32, _⟩ => ⟨S16x1, .i1⟩
  | .hbm, ⟨33, _⟩ => ⟨S_, .f32⟩
  | .hbm, ⟨34, _⟩ => ⟨S_, .f32⟩
  | .hbm, ⟨35, _⟩ => ⟨S16x1, .f32⟩
  | .hbm, ⟨36, _⟩ => ⟨S16x1, .f32⟩
  | .hbm, ⟨37, _⟩ => ⟨S_, .i32⟩
  | .hbm, ⟨38, _⟩ => ⟨S32768, .i32⟩
  | .hbm, ⟨39, _⟩ => ⟨S32768, .i1⟩
  | .hbm, ⟨40, _⟩ => ⟨S_, .i32⟩
  | .hbm, ⟨41, _⟩ => ⟨S32768, .i32⟩
  | .hbm, ⟨42, _⟩ => ⟨S32768, .i32⟩
  | .hbm, ⟨43, _⟩ => ⟨S32768, .i32⟩
  | .hbm, ⟨44, _⟩ => ⟨S32768x1, .i32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S16x1, .f32⟩
  | .hbm, ⟨50, _⟩ => ⟨S32768x1, .i32⟩
  | .hbm, ⟨51, _⟩ => ⟨S16x1, .f32⟩
  | .hbm, ⟨52, _⟩ => ⟨S_, .i32⟩
  | .hbm, ⟨53, _⟩ => ⟨S32768, .i32⟩
  | .hbm, ⟨54, _⟩ => ⟨S32768, .i1⟩
  | .hbm, ⟨55, _⟩ => ⟨S_, .i32⟩
  | .hbm, ⟨56, _⟩ => ⟨S32768, .i32⟩
  | .hbm, ⟨57, _⟩ => ⟨S32768, .i32⟩
  | .hbm, ⟨58, _⟩ => ⟨S32768, .i32⟩
  | .hbm, ⟨59, _⟩ => ⟨S32768x1, .i32⟩
  | .hbm, ⟨60, _⟩ => ⟨S32768x1, .f32⟩
  | .hbm, ⟨61, _⟩ => ⟨S32768x1, .f32⟩
  | .hbm, ⟨62, _⟩ => ⟨S32768x512, .f32⟩
  | .hbm, ⟨63, _⟩ => ⟨S32768x512, .f32⟩
  | .hbm, ⟨64, _⟩ => ⟨S_, .f32⟩
  | .hbm, ⟨65, _⟩ => ⟨S16x512, .f32⟩
  | .hbm, ⟨66, _⟩ => ⟨S32768x1, .i32⟩
  | .hbm, ⟨67, _⟩ => ⟨S16x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Proof.KernelSteps.lean ====
module

public import proofs.«01_k».proof.Proof.Gen.KernelIdeal.Value
public import Idealize.ShloMosaic.PureOps.Ideal.Laws
public import Idealize.ShloMosaic.Lib.Pointwise
public import Idealize.ShloMosaic.Lib.Pipeline.ValueKit.Acc
public import Idealize.ShloMosaic.Lib.Pipeline.ValueKit.Tiles
public import Idealize.ShloMosaic.Lib.Pipeline.ReadBack

/-!
# One grid point of the kernel, read at an index

A grid point works on 8192 rows, in two halves of 4096. It adds to the running denominators `l` and to the running
weighted sums `acc` one term for every row of the block. Here each store of a grid point is read at an index as a sum
over the 8192 rows of the block.
-/

@[expose] public section

noncomputable section

namespace Cert.KernelIdeal.Proof
open Cert.KernelIdeal Cert.KernelIdeal.Gen Idealize.ShloMosaic Idealize.ShloMosaic.TcCoe Idealize.SL.Sem

/-- The unnormalised weight of a row given by its features `x`, for the head vector `w2` and the shift `c`. -/
def rowExp (w1 : Fin 512 → Fin 256 → EReal) (b1 w2 : Fin 256 → EReal) (c : EReal) (x : Fin 512 → EReal) : EReal :=
  Ideal.exp (∑ a, w2 a * Ideal.tanh (∑ k, x k * w1 k a + b1 a) + c)

/-- A select on equal words is an `if`. -/
theorem select_eq_word {α : Type} (a b : BitVec 32) (x y : α) :
    Scalar.select (IntOp.cmpi CmpIPredicate.eq a b) x y = if a = b then x else y := by
  unfold Scalar.select IntOp.cmpi
  by_cases h : a = b
  · simp [h]
  · have hb : (a == b) = false := beq_eq_false_iff_ne.mpr h
    simp [h, hb]

/-- A sum over the rows of a block, split into its two halves. -/
theorem sum_halves (f : Fin 8192 → EReal) :
    ∑ r, f r = ∑ r : Fin 4096, f ⟨r.val, by omega⟩ + ∑ r : Fin 4096, f ⟨4096 + r.val, by omega⟩ :=
  Fin.sum_univ_add (a := 4096) (b := 4096) f

section block
variable (x : Vec Ideal S8192x512 .f32) (ids : Vec Ideal S1x1x8192 .i32) (w1 : Vec Ideal S512x256 .bf16)
  (b1 : Vec Ideal S1x256 .f32) (w2 : Vec Ideal S16x256 .bf16) (cc : Vec Ideal S16x1 .f32)

/-- The weight that a block gives its row `r` at segment `g`. -/
def blkExp (g : Fin 16) (r : Fin 8192) : EReal :=
  rowExp (fun k a => w1 (ix2 k a)) (fun a => b1 (ix2 0 a)) (fun a => w2 (ix2 g a)) (cc (ix2 g 0)) (fun k => x (ix2 r k))

/-- The payload of the first half's weights, at segment `g` and row `r` of the half. -/
theorem lower_weights (g : Fin 16) (r : Fin 4096) :
    k0_pay14 (F := Ideal) w1 b1 w2 cc (View.ld x (Rect.unit ![0, 0] ![4096, 512] inb_S8192x512_S4096x512_0_0)) (ix2 g r)
      = blkExp x w1 b1 w2 cc g ⟨r.val, by omega⟩ := by
  unfold blkExp rowExp
  unfold_payloads
  pointwise

/-- The payload of the second half's weights, at segment `g` and row `r` of the half. -/
theorem upper_weights (g : Fin 16) (r : Fin 4096) :
    k0_pay15 (F := Ideal) w1 b1 w2 cc (View.ld x (Rect.unit ![4096, 0] ![4096, 512] inb_S8192x512_S4096x512_4096_0))
        (ix2 g r)
      = blkExp x w1 b1 w2 cc g ⟨4096 + r.val, by omega⟩ := by
  unfold blkExp rowExp
  unfold_payloads
  pointwise

/-- What a block adds to the denominator of segment `g`. -/
def blkL (g : Fin 16) : EReal :=
  ∑ r : Fin 8192, if ids (ix3 0 0 r) = BitVec.ofNat 32 g.val then blkExp x w1 b1 w2 cc g r else 0

/-- What a block adds to the weighted sum of segment `g`, feature `d`. -/
def blkA (g : Fin 16) (d : Fin 512) : EReal :=
  ∑ r : Fin 8192, if ids (ix3 0 0 r) = BitVec.ofNat 32 g.val then blkExp x w1 b1 w2 cc g r * x (ix2 r d) else 0

/-- The store to the denominators adds the block's terms to what was there. -/
theorem denominators_step (prev : Vec Ideal S16x1 .f32) (g : Fin 16) (z : Fin 1) :
    k0_pay3 (F := Ideal) (iota Kind.tc S16x4096 32 [0] iota_S16x4096_d0_w32)
      (k0_pay14 w1 b1 w2 cc (View.ld x (Rect.unit ![0, 0] ![4096, 512] inb_S8192x512_S4096x512_0_0)))
      (k0_pay15 w1 b1 w2 cc (View.ld x (Rect.unit ![4096, 0] ![4096, 512] inb_S8192x512_S4096x512_4096_0)))
      (k0_pay16 (View.ld ids (Rect.unit ![0, 0, 0] ![1, 1, 4096] inb_S1x1x8192_S1x1x4096_0_0_0)))
      (View.ld ids (Rect.unit ![0, 0, 4096] ![1, 1, 4096] inb_S1x1x8192_S1x1x4096_0_0_4096)) prev (ix2 g z)
      = prev (ix2 g z) + blkL x ids w1 b1 w2 cc g := by
  unfold blkL
  rw [sum_halves]
  unfold k0_pay3 k0_pay1 k0_pay2 k0_pay16
  pointwise
  simp only [lower_weights, upper_weights, select_eq_word]

/-- The store to the weighted sums adds the block's terms to what was there. -/
theorem sums_step (prev : Vec Ideal S16x512 .f32) (g : Fin 16) (d : Fin 512) :
    k0_pay4 (F := Ideal) (iota Kind.tc S16x4096 32 [0] iota_S16x4096_d0_w32)
      (k0_pay12 (View.ld x (Rect.unit ![0, 0] ![4096, 512] inb_S8192x512_S4096x512_0_0)))
      (k0_pay13 (View.ld x (Rect.unit ![4096, 0] ![4096, 512] inb_S8192x512_S4096x512_4096_0)))
      (k0_pay14 w1 b1 w2 cc (View.ld x (Rect.unit ![0, 0] ![4096, 512] inb_S8192x512_S4096x512_0_0)))
      (k0_pay15 w1 b1 w2 cc (View.ld x (Rect.unit ![4096, 0] ![4096, 512] inb_S8192x512_S4096x512_4096_0)))
      (k0_pay16 (View.ld ids (Rect.unit ![0, 0, 0] ![1, 1, 4096] inb_S1x1x8192_S1x1x4096_0_0_0)))
      (View.ld ids (Rect.unit ![0, 0, 4096] ![1, 1, 4096] inb_S1x1x8192_S1x1x4096_0_0_4096)) prev (ix2 g d)
      = prev (ix2 g d) + blkA x ids w1 b1 w2 cc g d := by
  unfold blkA
  rw [sum_halves]
  unfold k0_pay4 k0_pay1 k0_pay2 k0_pay16 k0_pay12 k0_pay13
  pointwise
  simp only [lower_weights, upper_weights, select_eq_word]

end block

/-- The final store: a quotient where the denominator is positive, zero elsewhere. -/
theorem pay5_apply (l : Vec Ideal S16x1 .f32) (a : Vec Ideal S16x512 .f32) (g : Fin 16) (d : Fin 512) :
    k0_pay5 l a (ix2 g d) = if 0 < l (ix2 g 0) then Ideal.div (a (ix2 g d)) (l (ix2 g 0)) else 0 := by
  unfold_payloads
  pointwise

end Cert.KernelIdeal.Proof
end
-- ==== Proof.KernelFold.lean ====
module

public import proofs.«01_k».proof.Proof.KernelSteps

/-!
# The four grid points of the kernel

The denominators and the weighted sums start at zero and every grid point adds its block's terms. The output is stored
by the last point only: the quotient of the two, where the denominator is positive.
-/

@[expose] public section

noncomputable section

namespace Cert.KernelIdeal.Proof
open Cert.KernelIdeal Cert.KernelIdeal.Gen Idealize.ShloMosaic Idealize.ShloMosaic.TcCoe Idealize.SL.Sem

variable (m : (ℓ : Loc nD τ sig) → Buf (Elt Ideal) ℓ) (c : Dev nD)

/-- What a grid point leaves: the output block, the denominators, the weighted sums. -/
abbrev Carry := Vec Ideal S16x512 .f32 × Vec Ideal S16x1 .f32 × Vec Ideal S16x512 .f32

/-- What grid point `t` adds to the denominator of segment `g`. -/
def ptL (t : Fin cfg0.N) (g : Fin 16) : EReal :=
  blkL (iblk m c 0 t) (iblk m c 1 t) (iblk m c 2 t) (iblk m c 3 t) (iblk m c 4 t) (iblk m c 5 t) g

/-- What grid point `t` adds to the weighted sum of segment `g`, feature `d`. -/
def ptA (t : Fin cfg0.N) (g : Fin 16) (d : Fin 512) : EReal :=
  blkA (iblk m c 0 t) (iblk m c 1 t) (iblk m c 2 t) (iblk m c 3 t) (iblk m c 4 t) (iblk m c 5 t) g d

theorem zero_denominators (j : S16x1.Idx) : k0_pay6 (F := Ideal) j = 0 := by
  unfold_payloads
  pointwise

theorem zero_sums (j : S16x512.Idx) : k0_pay7 (F := Ideal) j = 0 := by
  unfold_payloads
  pointwise

section step
variable (t : Fin cfg0.N) (acc : Carry) (g : Fin 16)

/-- The first point starts the denominators. -/
theorem first_l (h0 : t.val % 4 = 0) (h1 : ¬t.val % 4 = 3) (z : Fin 1) :
    (Value.stAt0 m c t.val t.isLt acc).2.1 (ix2 g z) = ptL m c t g := by
  rw [Value.stAt0_A m c t acc h0 h1]
  frame_out
  refine (denominators_step _ _ _ _ _ _ _ g z).trans ?_
  rw [zero_denominators, zero_add]; rfl

/-- The first point starts the weighted sums. -/
theorem first_a (h0 : t.val % 4 = 0) (h1 : ¬t.val % 4 = 3) (d : Fin 512) :
    (Value.stAt0 m c t.val t.isLt acc).2.2 (ix2 g d) = ptA m c t g d := by
  rw [Value.stAt0_A m c t acc h0 h1]
  frame_out
  refine (sums_step _ _ _ _ _ _ _ g d).trans ?_
  rw [zero_sums, zero_add]; rfl

/-- A middle point adds to the denominators. -/
theorem middle_l (h0 : ¬t.val % 4 = 0) (h1 : ¬t.val % 4 = 3) (z : Fin 1) :
    (Value.stAt0 m c t.val t.isLt acc).2.1 (ix2 g z) = acc.2.1 (ix2 g z) + ptL m c t g := by
  rw [Value.stAt0_B m c t acc h0 h1]
  frame_out
  simp only [read_unread_whole]
  exact denominators_step _ _ _ _ _ _ _ g z

/-- A middle point adds to the weighted sums. -/
theorem middle_a (h0 : ¬t.val % 4 = 0) (h1 : ¬t.val % 4 = 3) (d : Fin 512) :
    (Value.stAt0 m c t.val t.isLt acc).2.2 (ix2 g d) = acc.2.2 (ix2 g d) + ptA m c t g d := by
  rw [Value.stAt0_B m c t acc h0 h1]
  frame_out
  simp only [read_unread_whole]
  exact sums_step _ _ _ _ _ _ _ g d

/-- The last point adds its terms and stores the quotient. -/
theorem last_out (h0 : ¬t.val % 4 = 0) (h1 : t.val % 4 = 3) (d : Fin 512) :
    (Value.stAt0 m c t.val t.isLt acc).1 (ix2 g d)
      = if 0 < acc.2.1 (ix2 g 0) + ptL m c t g
        then Ideal.div (acc.2.2 (ix2 g d) + ptA m c t g d) (acc.2.1 (ix2 g 0) + ptL m c t g) else 0 := by
  rw [Value.stAt0_C m c t acc h0 h1]
  frame_out
  simp only [read_unread_whole]
  rw [pay5_apply, denominators_step, sums_step]
  rfl

end step

/-- The grid point number `n`. -/
abbrev pt (n : Fin 4) : Fin cfg0.N := ⟨n.val, lt_of_lt_of_eq n.isLt N_0.symm⟩

/-- The denominator of segment `g` after the whole grid. -/
def gridL (g : Fin 16) : EReal := ∑ n : Fin 4, ptL m c (pt n) g

/-- The weighted sum of segment `g`, feature `d`, after the whole grid. -/
def gridA (g : Fin 16) (d : Fin 512) : EReal := ∑ n : Fin 4, ptA m c (pt n) g d

/-- A fold of three points, written out. -/
theorem fold_three {N : ℕ} {α : Type} (a : (n : ℕ) → n < N → α) (f : (n : ℕ) → n < N → α → α) (h : 0 + 2 < N)
    (h0 : 0 < N) (h1 : 1 < N) (h2 : 2 < N) : Pipeline.accAt a f 0 2 h = f 2 h2 (f 1 h1 (a 0 h0)) := rfl

/-- What the third point leaves, as three steps. -/
theorem early_steps (h : 0 + 2 < cfg0.N) :
    Pipeline.accAt (fun n h => Value.stAt0 m c n h Value.junk0) (Value.stAt0 m c) 0 2 h
      = Value.stAt0 m c 2 (pt 2).isLt (Value.stAt0 m c 1 (pt 1).isLt
          (Value.stAt0 m c 0 (pt 0).isLt Value.junk0)) :=
  fold_three _ _ h (pt 0).isLt (pt 1).isLt (pt 2).isLt

/-- The denominators before the last point. -/
theorem early_l (h : 0 + 2 < cfg0.N) (g : Fin 16) :
    (Pipeline.accAt (fun n h => Value.stAt0 m c n h Value.junk0) (Value.stAt0 m c) 0 2 h).2.1 (ix2 g 0)
      = ptL m c (pt 0) g + ptL m c (pt 1) g + ptL m c (pt 2) g := by
  rw [early_steps]
  refine (middle_l m c (pt 2) _ g (by decide) (by decide) 0).trans (congrArg (· + ptL m c (pt 2) g) ?_)
  refine (middle_l m c (pt 1) _ g (by decide) (by decide) 0).trans (congrArg (· + ptL m c (pt 1) g) ?_)
  exact first_l m c (pt 0) _ g (by decide) (by decide) 0

/-- The weighted sums before the last point. -/
theorem early_a (h : 0 + 2 < cfg0.N) (g : Fin 16) (d : Fin 512) :
    (Pipeline.accAt (fun n h => Value.stAt0 m c n h Value.junk0) (Value.stAt0 m c) 0 2 h).2.2 (ix2 g d)
      = ptA m c (pt 0) g d + ptA m c (pt 1) g d + ptA m c (pt 2) g d := by
  rw [early_steps]
  refine (middle_a m c (pt 2) _ g (by decide) (by decide) d).trans (congrArg (· + ptA m c (pt 2) g d) ?_)
  refine (middle_a m c (pt 1) _ g (by decide) (by decide) d).trans (congrArg (· + ptA m c (pt 1) g d) ?_)
  exact first_a m c (pt 0) _ g (by decide) (by decide) d

/-- The kernel's result at an index. -/
theorem kernel_out (g : Fin 16) (d : Fin 512) :
    Value.G6 m c (ix2 g d) = if 0 < gridL m c g then Ideal.div (gridA m c g d) (gridL m c g) else 0 := by
  rw [Value.G6_last]
  refine (last_out m c (pt 3) _ g (by decide) (by decide) d).trans ?_
  have hl := early_l m c (by decide) g
  have ha := early_a m c (by decide) g d
  unfold gridL gridA
  rw [Fin.sum_univ_four, Fin.sum_univ_four]
  erw [hl, ha]

end Cert.KernelIdeal.Proof
end
-- ==== Proof.KernelBlocks.lean ====
module

public import proofs.«01_k».proof.Proof.KernelFold
public import Idealize.ShloMosaic.Lib.Claim
public import Idealize.ShloMosaic.Lib.StableHlo.ReadAt
public import Idealize.ShloMosaic.Lib.Pipeline.ValueKit

/-!
# The blocks of the kernel, read from the arguments

Grid point `n` works on rows `8192 n … 8192 n + 8191` of the features and of the segment ids; the parameters come whole.
With that, the sums over the grid points and over the rows of a block are sums over the 32768 rows.
-/

@[expose] public section

noncomputable section

namespace Cert.KernelIdeal.Proof
open Cert.KernelIdeal Cert.KernelIdeal.Gen Idealize.ShloMosaic Idealize.ShloMosaic.TcCoe Idealize.SL.Sem
variable (m : (ℓ : Loc nD τ sig) → Buf (Elt Ideal) ℓ) (c : Dev nD)

/-- The arguments as plain functions of their coordinates. -/
def argX (i : Fin 32768) (k : Fin 512) : EReal := m ((c : Thread nD τ).loc main_arg0) (ix2 i k)
def argIds (i : Fin 32768) : BitVec 32 := m ((c : Thread nD τ).loc main_arg1) (ix1 i)
def argW1 (k : Fin 512) (a : Fin 256) : EReal := m ((c : Thread nD τ).loc main_arg2) (ix2 k a)
def argB1 (a : Fin 256) : EReal := m ((c : Thread nD τ).loc main_arg3) (ix1 a)
def argW2 (a : Fin 256) : EReal := m ((c : Thread nD τ).loc main_arg4) (ix2 a 0)
def argB2 : EReal := m ((c : Thread nD τ).loc main_arg5) (ix1 0)

/-- The constant by which the kernel shifts every score: the head's offset minus the sum of its weights' magnitudes. -/
def shift : EReal := argB2 m c - ∑ a : Fin 256, max (argW2 m c a) (-argW2 m c a)

/-- Which block of each operand a grid point reads. -/
theorem index_0 : ∀ t : Fin cfg0.N, win0_0.index t = ![t.val, 0] := (by decide +kernel : ∀ t : Fin grid0.N, _)
theorem index_1 : ∀ t : Fin cfg0.N, win0_1.index t = ![t.val, 0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)

theorem x_block (n : Fin 4) (r : Fin 8192) (k : Fin 512) :
    iblk m c 0 (pt n) (ix2 r k) = argX m c ⟨n.val * 8192 + r.val, by omega⟩ k := by
  unfold argX
  unfold iblk V
  blk_simp [index_0]
  after_reads_at
  refine congrArg _ ?_
  blk_ext [index_0]

theorem ids_block (n : Fin 4) (r : Fin 8192) :
    iblk m c 1 (pt n) (ix3 0 0 r) = argIds m c ⟨n.val * 8192 + r.val, by omega⟩ := by
  unfold argIds
  unfold iblk V
  blk_simp [index_1]
  after_reads_at
  refine congrArg _ ?_
  blk_ext [index_1]

theorem w1_block (t : Fin cfg0.N) (k : Fin 512) (a : Fin 256) :
    iblk m c 2 t (ix2 k a) = argW1 m c k a := by
  unfold argW1
  unfold iblk V
  blk_simp [index_2]
  after_reads_at
  refine congrArg _ ?_
  blk_ext [index_2]

theorem b1_block (t : Fin cfg0.N) (a : Fin 256) :
    iblk m c 3 t (ix2 0 a) = argB1 m c a := by
  unfold argB1
  unfold iblk V
  blk_simp [index_3]
  after_reads_at
  refine congrArg _ ?_
  blk_ext [index_3]

theorem w2_block (t : Fin cfg0.N) (g : Fin 16) (a : Fin 256) :
    iblk m c 4 t (ix2 g a) = argW2 m c a := by
  unfold argW2
  unfold iblk V
  blk_simp [index_4]
  after_reads_at
  refine congrArg _ ?_
  blk_ext [index_4]

theorem shift_block (t : Fin cfg0.N) (g : Fin 16) : iblk m c 5 t (ix2 g 0) = shift m c := by
  unfold iblk V shift argB2 argW2
  blk_simp [index_5]
  after_reads_at
  simp only [Fin.sum_univ_one]
  rfl

/-- The weight that the kernel gives row `i`, before any division. -/
def kerExp (i : Fin 32768) : EReal :=
  rowExp (argW1 m c) (argB1 m c) (argW2 m c) (shift m c) (argX m c i)

/-- A row's weight, from its block. -/
theorem blkExp_eq (n : Fin 4) (g : Fin 16) (r : Fin 8192) :
    blkExp (iblk m c 0 (pt n)) (iblk m c 2 (pt n)) (iblk m c 3 (pt n)) (iblk m c 4 (pt n)) (iblk m c 5 (pt n)) g r
      = kerExp m c ⟨n.val * 8192 + r.val, by omega⟩ := by
  unfold blkExp kerExp
  simp only [x_block, w1_block, b1_block, w2_block, shift_block]

/-- The denominator of a segment: the weights of its rows, added up. -/
theorem gridL_eq (g : Fin 16) :
    gridL m c g = ∑ i, if argIds m c i = BitVec.ofNat 32 g.val then kerExp m c i else 0 := by
  unfold gridL ptL blkL
  refine Fin.sum_mul_add_congr fun n r hl => ?_
  rw [ids_block, blkExp_eq]

/-- The weighted sum of a segment at a feature. -/
theorem gridA_eq (g : Fin 16) (d : Fin 512) :
    gridA m c g d = ∑ i, if argIds m c i = BitVec.ofNat 32 g.val then kerExp m c i * argX m c i d else 0 := by
  unfold gridA ptA blkA
  refine Fin.sum_mul_add_congr fun n r hl => ?_
  rw [ids_block, blkExp_eq, x_block]

end Cert.KernelIdeal.Proof
end
-- ==== Proof.RefScatter.lean ====
module

public import Idealize.ShloMosaic.Lib.Routing.OpsPair
public import Idealize.ShloMosaic.Lib.Routing.Ops
public import Idealize.ShloMosaic.PureOps.Ideal.Laws
public import Idealize.ShloMosaic.Lib.Pointwise

/-!
# A segment sum, read at an entry

A segment sum is printed as an additive scatter of the rows of a table into a table of segments, one index word per row.
At an entry it is what was there plus the entries of the rows whose word is the segment's number; a row whose word is no
segment's number is dropped.
-/

@[expose] public section

noncomputable section

namespace Cert.ReferenceIdeal.Proof
open Idealize.ShloMosaic Idealize.ShloMosaic.Routing

variable {R C n : ℕ}

/-- Where entry `(i, e)` of the updates lands: in the row that the index word of `i`, read signed, names, at column `e`. -/
theorem lands_row (d : ScatterDims (shape2 R C) (shape2 n 1) (shape2 n C)) (huw : d.updateWindowDims = [1])
    (hiw : d.insertedWindowDims = [0]) (hsd : d.scatterDimsToOperandDims = [0]) (hivd : d.indexVectorDim = 1)
    (idx : IVec (shape2 n 1) 32) (i : Fin n) (e : Fin C) (g : Fin R) (f : Fin C) :
    d.resultIdx? (ix2 i e) idx = some (ix2 g f) ↔ (idx (ix2 i 0)).toInt = (g.val : Int) ∧ e = f := by
  have hm : (0 : Fin 2) ∈ d.scatterDimsToOperandDims := by rw [hsd]; exact List.mem_singleton.2 rfl
  have hkept : d.sKept = [1] := by
    show (shape2 R C).kept d.insertedWindowDims = _
    rw [hiw]
    rfl
  have huk : d.uScatter = [0] := by
    show (shape2 n C).kept d.updateWindowDims = _
    rw [huw]
    rfl
  have at0 : ∀ X : Fin 2, X ∈ d.uScatter → (ix2 i e X).val = i.val := fun X h => by
    rw [huk] at h
    obtain rfl := List.mem_singleton.1 h
    rfl
  have at1 : ∀ X : Fin 2, X ∈ d.updateWindowDims → (ix2 i e X).val = e.val := fun X h => by
    rw [huw] at h
    obtain rfl := List.mem_singleton.1 h
    rfl
  have hwin0 : d.window (ix2 i e) 0 = 0 := by
    unfold ScatterDims.window
    rw [dif_neg fun h => by rw [hkept] at h; exact absurd (List.mem_singleton.1 h) (by decide : (0 : Fin 2) ≠ 1)]
  have hwin1 : d.window (ix2 i e) 1 = e.val := by
    unfold ScatterDims.window
    rw [dif_pos (by rw [hkept]; exact List.mem_singleton.2 rfl)]
    exact at1 _ (List.getElem_mem _)
  have hstart1 : d.start (ix2 i e) idx 1 = 0 := by
    unfold ScatterDims.start
    rw [dif_neg fun h => by rw [hsd] at h; exact absurd (List.mem_singleton.1 h) (by decide : (1 : Fin 2) ≠ 0)]
  have hstart0 : d.start (ix2 i e) idx 0 = (idx (ix2 i 0)).toInt := by
    unfold ScatterDims.start
    rw [dif_pos hm]
    have hsi : d.siIdx (ix2 i e) ⟨d.scatterDimsToOperandDims.idxOf 0, List.idxOf_lt_length_iff.2 hm⟩ = ix2 i 0 := by
      funext b
      apply Fin.ext
      match b with
      | ⟨0, _⟩ =>
        unfold ScatterDims.siIdx
        rw [dif_neg (by rw [hivd]; exact Nat.zero_ne_one)]
        unfold ScatterDims.siCoord
        simp only [Fin.val_cast]
        exact at0 _ (List.getElem_mem _)
      | ⟨1, _⟩ =>
        unfold ScatterDims.siIdx
        rw [dif_pos (by rw [hivd])]
        show List.idxOf (0 : Fin 2) d.scatterDimsToOperandDims = 0
        rw [hsd]; simp
    rw [hsi]
  have hr := resultIdx?_ix2 d (ix2 i e) idx g f
  rw [hstart0, hwin0, hstart1, hwin1, ← ix2_eq_valueIdx] at hr
  rw [Fin.ext_iff, hr]
  omega

/-- An index word that names segment `g`, fewer than `2 ^ 31` segments, is the segment's number. -/
theorem names_segment (w : BitVec 32) (g : ℕ) (hg : g < 2 ^ 31) : w.toInt = (g : Int) ↔ w = BitVec.ofNat 32 g := by
  rw [← StableHlo.Predicate.toInt_ofNat_small g hg, BitVec.toInt_inj]

/-- An additive scatter of rows at an entry. -/
theorem scatterAdd_rows (d : ScatterDims (shape2 R C) (shape2 n 1) (shape2 n C)) (huw : d.updateWindowDims = [1])
    (hiw : d.insertedWindowDims = [0]) (hsd : d.scatterDimsToOperandDims = [0]) (hivd : d.indexVectorDim = 1)
    (hR : R ≤ 2 ^ 31) (x : FVec Ideal (shape2 R C) .f32) (idx : IVec (shape2 n 1) 32)
    (upd : FVec Ideal (shape2 n C) .f32) (g : Fin R) (f : Fin C) :
    Host.scatterAdd d x idx upd (ix2 g f)
      = x (ix2 g f) + ∑ i : Fin n, if idx (ix2 i 0) = BitVec.ofNat 32 g.val then upd (ix2 i f) else (0 : EReal) := by
  have hl := fun i e => lands_row d huw hiw hsd hivd idx i e g f
  have hn := fun i => names_segment (idx (ix2 i 0)) g.val (by have := g.isLt; omega)
  unfold Host.scatterAdd
  show x (ix2 g f) + ∑ j ∈ Finset.univ.filter (fun j => d.resultIdx? j idx = some (ix2 g f)), upd j = _
  congr 1
  rw [← Finset.sum_filter]
  refine Finset.sum_nbij' (fun j => j 0) (fun i => ix2 i f) ?_ ?_ ?_ ?_ ?_
  · intro j hj
    have hj' := (Finset.mem_filter.1 hj).2
    rw [eq_ix2 j] at hj'
    exact Finset.mem_filter.2 ⟨Finset.mem_univ _, (hn _).1 ((hl _ _).1 hj').1⟩
  · intro i hi
    exact Finset.mem_filter.2 ⟨Finset.mem_univ _, (hl _ _).2 ⟨(hn _).2 (Finset.mem_filter.1 hi).2, rfl⟩⟩
  · intro j hj
    have hj' := (Finset.mem_filter.1 hj).2
    rw [eq_ix2 j] at hj'
    rw [← ((hl _ _).1 hj').2]
    exact (eq_ix2 j).symm
  · intro i _; rfl
  · intro j hj
    have hj' := (Finset.mem_filter.1 hj).2
    rw [eq_ix2 j] at hj'
    rw [← ((hl _ _).1 hj').2, ← eq_ix2 j]

end Cert.ReferenceIdeal.Proof
end
-- ==== Proof.RefValue.lean ====
module

public import proofs.«01_k».proof.Proof.Gen.ReferenceIdeal.Read
public import proofs.«01_k».proof.Proof.RefScatter
public import Idealize.ShloMosaic.Lib.Tactic.WordOmega

/-!
# The reference, read at an entry

The stages of the reference at an index: a row's score, the number subtracted from the scores of a segment (a real number
whatever the data), the segment sums, and the result.
-/

@[expose] public section

noncomputable section

namespace Cert.ReferenceIdeal.Proof
open Cert.ReferenceIdeal Cert.ReferenceIdeal.Gen Cert.ReferenceIdeal.Read Idealize.ShloMosaic

variable (x0 : (⟨S32768x512, .f32⟩ : BufTy).Contents (Elt Ideal)) (x1 : (⟨S32768, .i32⟩ : BufTy).Contents (Elt Ideal))
  (x2 : (⟨S512x256, .f32⟩ : BufTy).Contents (Elt Ideal)) (x3 : (⟨S256, .f32⟩ : BufTy).Contents (Elt Ideal))
  (x4 : (⟨S256x1, .f32⟩ : BufTy).Contents (Elt Ideal)) (x5 : (⟨S1, .f32⟩ : BufTy).Contents (Elt Ideal))

/-- The score of a row given by its features. -/
def rowScore (w1 : Fin 512 → Fin 256 → EReal) (b1 w2 : Fin 256 → EReal) (b2 : EReal) (x : Fin 512 → EReal) : EReal :=
  ∑ a, Ideal.tanh (∑ k, x k * w1 k a + b1 a) * w2 a + b2

theorem score_apply (i : Fin 32768) :
    val_main_v8 (F := Ideal) x0 x2 x3 x4 x5 (ix2 i 0)
      = rowScore (fun k a => x2 (ix2 k a)) (fun a => x3 (ix1 a)) (fun a => x4 (ix2 a 0)) (x5 (ix1 0)) (fun k => x0 (ix2 i k)) := by
  unfold rowScore val_main_v8 val_main_v7 val_main_v6 val_main_v5 val_main_v4 val_main_v3 val_main_v2 val_main_v1 val_main_v0
  pointwise

/-- A row number that needs no wrapping around stays as it is. -/
theorem wrap_of_segment (g : Fin 16) :
    Scalar.select (IntOp.cmpi CmpIPredicate.slt (BitVec.ofNat 32 g.val) 0#32) (IntOp.addi (BitVec.ofNat 32 g.val) 16#32)
      (BitVec.ofNat 32 g.val) = BitVec.ofNat 32 g.val := by
  revert g; decide

/-- The row of the segment table that a member of segment `g` reads. -/
theorem index_apply (i : Fin 32768) (g : Fin 16) (h : x1 (ix1 i) = BitVec.ofNat 32 g.val) :
    val_main_v27 (F := Ideal) x1 (ix2 i 0) = BitVec.ofNat 32 g.val := by
  unfold val_main_v27 val_main_v26 val_main_v25 val_main_v24 val_main_v23 val_main_v22 val_main_c val_main_c_3
  pointwise
  rw [h, wrap_of_segment]

theorem index_apply' (i : Fin 32768) (g : Fin 16) (h : x1 (ix1 i) = BitVec.ofNat 32 g.val) :
    val_main_v39 (F := Ideal) x1 (ix2 i 0) = BitVec.ofNat 32 g.val := by
  unfold val_main_v39 val_main_v38 val_main_v37 val_main_v36 val_main_v35 val_main_v34 val_main_c_5 val_main_c_6
  pointwise
  rw [h, wrap_of_segment]

/-- The pattern of positive infinity. -/
theorem ofBits_infinity : Ideal.ofBits FTy.f32 2139095040#32 = ⊤ := by
  simp [Ideal.ofBits, Ideal.ieee]

/-- A number whose magnitude is below infinity is real. -/
theorem real_of_abs_lt (x : EReal) (h : max x (-x) < ⊤) : ∃ r : ℝ, x = r := by
  induction x with
  | bot => simp at h
  | top => simp at h
  | coe r => exact ⟨r, rfl⟩

/-- What is subtracted from the scores of a segment is a real number, whatever the data. -/
theorem center_real (g : Fin 16) : ∃ r : ℝ, val_main_v21 (F := Ideal) x0 x1 x2 x3 x4 x5 (ix2 g 0) = r := by
  unfold val_main_v21 val_main_v20 val_main_v19 val_main_v18 val_main_v17 val_main_cst_1 val_main_call1_v1
    val_main_call1_v0 val_main_cst_2
  generalize val_main_v16 (F := Ideal) x0 x1 x2 x3 x4 x5 = y
  pointwise
  rw [ofBits_infinity]
  split
  · next h => exact real_of_abs_lt _ h
  · exact ⟨0, by show Ideal.ofBits FTy.f32 0#32 = _; rw [Ideal.ofBits_zero_f32]; rfl⟩

/-- What a member of segment `g` reads of the subtracted numbers. -/
theorem center_of_row (i : Fin 32768) (g : Fin 16) (h : x1 (ix1 i) = BitVec.ofNat 32 g.val) :
    val_main_v28 (F := Ideal) x0 x1 x2 x3 x4 x5 (ix2 i 0) = val_main_v21 (F := Ideal) x0 x1 x2 x3 x4 x5 (ix2 g 0) := by
  unfold val_main_v28
  have hr := Routing.gather_row gather_S16x1_S32768x1_S32768x1_1_0_n_n_0_1_11 rfl rfl rfl rfl rfl
    (val_main_v21 (F := Ideal) x0 x1 x2 x3 x4 x5) (val_main_v27 (F := Ideal) x1) i (0 : Fin 1) g
    (by rw [← ix2_eq_valueIdx]; exact index_apply x1 i g h) (by decide)
  rw [← ix2_eq_valueIdx, ← ix2_eq_valueIdx] at hr
  exact hr

/-- The exponential of a member's score, centred. -/
theorem exp_of_row (i : Fin 32768) (g : Fin 16) (h : x1 (ix1 i) = BitVec.ofNat 32 g.val) :
    val_main_v30 (F := Ideal) x0 x1 x2 x3 x4 x5 (ix2 i 0)
      = Ideal.exp (val_main_v8 (F := Ideal) x0 x2 x3 x4 x5 (ix2 i 0) - val_main_v21 (F := Ideal) x0 x1 x2 x3 x4 x5 (ix2 g 0)) := by
  rw [← center_of_row x0 x1 x2 x3 x4 x5 i g h]
  unfold val_main_v30 val_main_v29
  pointwise

/-- The sum of the exponentials of a segment. -/
theorem total_apply (g : Fin 16) :
    val_main_v33 (F := Ideal) x0 x1 x2 x3 x4 x5 (ix2 g 0)
      = ∑ i : Fin 32768, if x1 (ix1 i) = BitVec.ofNat 32 g.val
          then Ideal.exp (val_main_v8 (F := Ideal) x0 x2 x3 x4 x5 (ix2 i 0)
            - val_main_v21 (F := Ideal) x0 x1 x2 x3 x4 x5 (ix2 g 0)) else (0 : EReal) := by
  unfold val_main_v33
  refine (scatterAdd_rows scatter_S16x1_S32768x1_S32768x1_1_0_0_1 rfl rfl rfl rfl (by decide) _ _ _ g (0 : Fin 1)).trans ?_
  have hz : val_main_v31 (F := Ideal) (ix2 g 0) = (0 : EReal) := by
    unfold val_main_v31 val_main_cst_4
    pointwise
  have hw : ∀ i : Fin 32768, val_main_v32 (F := Ideal) x1 (ix2 i 0) = x1 (ix1 i) := fun i => by
    unfold val_main_v32
    pointwise
  refine (congrArg (· + _) hz).trans ((zero_add _).trans (Finset.sum_congr rfl fun i _ => ?_))
  rw [hw]
  split
  · next h => exact exp_of_row x0 x1 x2 x3 x4 x5 i g h
  · rfl

/-- What a member of segment `g` reads of the sums. -/
theorem total_of_row (i : Fin 32768) (g : Fin 16) (h : x1 (ix1 i) = BitVec.ofNat 32 g.val) :
    val_main_v40 (F := Ideal) x0 x1 x2 x3 x4 x5 (ix2 i 0) = val_main_v33 (F := Ideal) x0 x1 x2 x3 x4 x5 (ix2 g 0) := by
  unfold val_main_v40
  have hr := Routing.gather_row gather_S16x1_S32768x1_S32768x1_1_0_n_n_0_1_11 rfl rfl rfl rfl rfl
    (val_main_v33 (F := Ideal) x0 x1 x2 x3 x4 x5) (val_main_v39 (F := Ideal) x1) i (0 : Fin 1) g
    (by rw [← ix2_eq_valueIdx]; exact index_apply' x1 i g h) (by decide)
  rw [← ix2_eq_valueIdx, ← ix2_eq_valueIdx] at hr
  exact hr

/-- The reference's result at an index. -/
theorem result_apply (g : Fin 16) (d : Fin 512) :
    val_main_v46 (F := Ideal) x0 x1 x2 x3 x4 x5 (ix2 g d)
      = ∑ i : Fin 32768, if x1 (ix1 i) = BitVec.ofNat 32 g.val
          then Ideal.div (Ideal.exp (val_main_v8 (F := Ideal) x0 x2 x3 x4 x5 (ix2 i 0)
            - val_main_v21 (F := Ideal) x0 x1 x2 x3 x4 x5 (ix2 g 0)))
              (val_main_v33 (F := Ideal) x0 x1 x2 x3 x4 x5 (ix2 g 0)) * x0 (ix2 i d) else (0 : EReal) := by
  unfold val_main_v46
  refine (scatterAdd_rows scatter_S16x512_S32768x1_S32768x512_1_0_0_1 rfl rfl rfl rfl (by decide) _ _ _ g d).trans ?_
  have hz : val_main_v44 (F := Ideal) (ix2 g d) = (0 : EReal) := by
    unfold val_main_v44 val_main_cst_7
    pointwise
  have hw : ∀ i : Fin 32768, val_main_v45 (F := Ideal) x1 (ix2 i 0) = x1 (ix1 i) := fun i => by
    unfold val_main_v45
    pointwise
  refine (congrArg (· + _) hz).trans ((zero_add _).trans (Finset.sum_congr rfl fun i _ => ?_))
  rw [hw]
  split
  · next h =>
    rw [← total_of_row x0 x1 x2 x3 x4 x5 i g h, ← exp_of_row x0 x1 x2 x3 x4 x5 i g h]
    unfold val_main_v43 val_main_v42 val_main_v41
    pointwise
  · rfl

end Cert.ReferenceIdeal.Proof
end
-- ==== Proof.Math.lean ====
module

public import proofs.«01_k».proof.Proof.KernelBlocks
public import proofs.«01_k».proof.Proof.RefValue

/-!
# The softmax identity

The kernel weighs a row by the exponential of its score shifted by one constant; the reference by the exponential of its
score minus a number of its segment. Both are real, and on one segment they differ by a positive real factor, which the
division by the segment's sum cancels. The features may be infinite: a positive real factor still distributes over their sum.
-/

@[expose] public section

noncomputable section

namespace Cert.SoftmaxIdentity
open Idealize.ShloMosaic

/-- A nonnegative real factor distributes over a sum of extended reals. -/
theorem sum_mul_real {ι : Type} (s : Finset ι) (y : ι → EReal) (r : ℝ) (hr : 0 ≤ r) :
    (∑ i ∈ s, y i) * (r : EReal) = ∑ i ∈ s, y i * (r : EReal) := by
  classical
  induction s using Finset.induction_on with
  | empty => simp
  | insert a s ha ih =>
    rw [Finset.sum_insert ha, Finset.sum_insert ha, ← ih, mul_comm, mul_comm (y a), mul_comm (∑ i ∈ s, y i)]
    exact EReal.left_distrib_of_nonneg_of_ne_top (by exact_mod_cast hr) (EReal.coe_ne_top r) _ _

/-- A sum of reals is real. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient by a real that is not zero is a product with its inverse. -/
theorem div_real (y : EReal) (r : ℝ) (hr : r ≠ 0) : Ideal.div y (r : EReal) = y * ((r⁻¹ : ℝ) : EReal) := by
  unfold Ideal.div
  rw [if_neg (by exact_mod_cast hr), EReal.coe_inv]

/-- The hyperbolic tangent of any number is real. -/
theorem tanh_real (x : EReal) : ∃ r : ℝ, Ideal.tanh x = r := by
  induction x with
  | bot => exact ⟨-1, by simp⟩
  | top => exact ⟨1, by simp⟩
  | coe r => exact ⟨Real.tanh r, rfl⟩

/-- One segment: the weighted mean with weights `κ e i` is the weighted mean with weights `e i`. -/
theorem segment_mean {n : ℕ} (M : Fin n → Prop) [DecidablePred M] (e : Fin n → ℝ) (he : ∀ i, 0 < e i) (κ : ℝ) (hκ : 0 < κ)
    (x : Fin n → EReal) :
    (if 0 < ∑ i, (if M i then ((κ * e i : ℝ) : EReal) else 0)
      then Ideal.div (∑ i, if M i then ((κ * e i : ℝ) : EReal) * x i else 0) (∑ i, if M i then ((κ * e i : ℝ) : EReal) else 0)
      else 0)
      = ∑ i, if M i then Ideal.div ((e i : ℝ) : EReal) (∑ j, if M j then ((e j : ℝ) : EReal) else 0) * x i else 0 := by
  simp only [← Finset.sum_filter]
  rw [sum_coe, sum_coe, ← Finset.mul_sum]
  set s := Finset.univ.filter M
  rcases s.eq_empty_or_nonempty with hs | hs
  · rw [hs]; simp
  · have hE : 0 < ∑ i ∈ s, e i := Finset.sum_pos (fun i _ => he i) hs
    set E := ∑ i ∈ s, e i
    have hL : 0 < κ * E := mul_pos hκ hE
    rw [if_pos (by exact_mod_cast hL), div_real _ _ hL.ne', sum_mul_real _ _ _ (inv_nonneg.2 hL.le)]
    refine Finset.sum_congr rfl fun i _ => ?_
    rw [div_real _ _ hE.ne', mul_right_comm, ← EReal.coe_mul, ← EReal.coe_mul]
    congr 2
    field_simp

/-- The two weights of a row differ by a factor that does not depend on the row. -/
theorem weights {n : ℕ} (w1 : Fin 512 → Fin 256 → EReal) (b1 : Fin 256 → EReal) (w2 : Fin 256 → ℝ) (b2 mx : ℝ)
    (x : Fin n → Fin 512 → EReal) :
    ∃ (κ : ℝ) (e : Fin n → ℝ), 0 < κ ∧ (∀ i, 0 < e i) ∧
      (∀ i, Cert.KernelIdeal.Proof.rowExp w1 b1 (fun a => (w2 a : EReal))
        ((b2 : EReal) - ∑ a : Fin 256, max (w2 a : EReal) (-(w2 a : EReal))) (x i) = ((κ * e i : ℝ) : EReal)) ∧
      (∀ i, Ideal.exp (Cert.ReferenceIdeal.Proof.rowScore w1 b1 (fun a => (w2 a : EReal)) (b2 : EReal) (x i) - (mx : EReal))
        = ((e i : ℝ) : EReal)) := by
  choose T hT using fun (i : Fin n) (a : Fin 256) => tanh_real (∑ k, x i k * w1 k a + b1 a)
  have hsum : ∑ a : Fin 256, max (w2 a : EReal) (-(w2 a : EReal)) = ((∑ a, |w2 a| : ℝ) : EReal) := by
    rw [← sum_coe]
    refine Finset.sum_congr rfl fun a _ => ?_
    rw [← EReal.coe_neg]
    exact (EReal.coe_strictMono.monotone.map_max (a := w2 a) (b := -w2 a)).symm
  refine ⟨Real.exp (mx - ∑ a, |w2 a|), fun i => Real.exp (∑ a, T i a * w2 a + b2 - mx), Real.exp_pos _,
    fun i => Real.exp_pos _, fun i => ?_, fun i => ?_⟩
  · unfold Cert.KernelIdeal.Proof.rowExp
    simp only [hT, hsum, ← EReal.coe_mul, sum_coe, ← EReal.coe_sub, ← EReal.coe_add]
    show ((Real.exp _ : ℝ) : EReal) = _
    rw [← Real.exp_add]
    congr 2
    rw [Finset.sum_congr rfl fun a _ => mul_comm (w2 a) (T i a)]
    ring
  · unfold Cert.ReferenceIdeal.Proof.rowScore
    simp only [hT, ← EReal.coe_mul, sum_coe, ← EReal.coe_add, ← EReal.coe_sub]
    rfl

end Cert.SoftmaxIdentity
end
-- ==== Proof.Tie.lean ====
module

public import proofs.«01_k».proof.Defs
public import proofs.«01_k».proof.Proof.Math

/-!
# The kernel's result is the reference's

The precondition says that the head's weights and its offset are finite. With that, the kernel's result array and the
reference's, both read at an index, are the two sides of the softmax identity.
-/

@[expose] public section

noncomputable section

namespace Cert.Tie
open Idealize.ShloMosaic Idealize.SL.Sem Cert.KernelIdeal.Proof

/-- The side conditions of the precondition's operations. -/
theorem preFacts : Cert.Pre_head_is_finite.Facts :=
  ⟨by decide, by decide⟩

section pre
variable [Cert.Pre_head_is_finite.Facts]
variable (x0 : FVec Ideal Cert.Pre_head_is_finite.S32768x512 .f32) (x1 : IVec Cert.Pre_head_is_finite.S32768 32)
  (x2 : FVec Ideal Cert.Pre_head_is_finite.S512x256 .f32) (x3 : FVec Ideal Cert.Pre_head_is_finite.S256 .f32)
  (x4 : FVec Ideal Cert.Pre_head_is_finite.S256x1 .f32) (x5 : FVec Ideal Cert.Pre_head_is_finite.S1 .f32)

/-- A bit that is set where a comparison holds. -/
theorem of_bit (p : Prop) [Decidable p] (h : BitVec.ofBool (decide p) = 1#1) : p := by
  by_contra hp
  rw [decide_eq_false hp] at h
  exact absurd h (by decide)

/-- A number whose magnitude compares below infinity is real. -/
theorem real_of_test (x : EReal) (h : BitVec.ofBool (decide (max x (-x) < Ideal.ofBits FTy.f32 0x7F800000#32)) = 1#1) :
    ∃ r : ℝ, x = r :=
  Cert.ReferenceIdeal.Proof.real_of_abs_lt x
    (lt_of_lt_of_eq (of_bit _ h) Cert.ReferenceIdeal.Proof.ofBits_infinity)

/-- The head's weights are real where the precondition holds. -/
theorem head_real (h : (Cert.Pre_head_is_finite.fn (F := Ideal) x0 x1 x2 x3 x4 x5).1 = fun _ => 1#1) (a : Fin 256) :
    ∃ r : ℝ, (x4 (ix2 a 0) : EReal) = r :=
  real_of_test _ (congrFun h (ix2 a 0))

/-- The head's offset is real where the precondition holds. -/
theorem offset_real (h : (Cert.Pre_head_is_finite.fn (F := Ideal) x0 x1 x2 x3 x4 x5).2 = fun _ => 1#1) :
    ∃ r : ℝ, (x5 (ix1 0) : EReal) = r :=
  real_of_test _ (congrFun h (ix1 0))

end pre

variable (m : (ℓ : Loc Cert.KernelIdeal.nD Cert.KernelIdeal.τ Cert.KernelIdeal.sig) → Buf (Elt Ideal) ℓ)
  (c : Dev Cert.KernelIdeal.nD)

/-- The reference's result, on the kernel's arguments. -/
abbrev refResult :=
  Cert.ReferenceIdeal.Read.val_main_v46 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-- The two results agree at an index, the head being finite. -/
theorem tie_at (h4 : ∀ a, ∃ r : ℝ, argW2 m c a = r) (h5 : ∃ r : ℝ, argB2 m c = r) (g : Fin 16) (d : Fin 512) :
    refResult m c (ix2 g d) = Cert.KernelIdeal.Value.G6 m c (ix2 g d) := by
  choose w2 hw2 using h4
  obtain ⟨b2, hb2⟩ := h5
  obtain ⟨mx, hmx⟩ := Cert.ReferenceIdeal.Proof.center_real
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) g
  obtain ⟨κ, e, hκ, he, hker, href⟩ := Cert.SoftmaxIdentity.weights (argW1 m c) (argB1 m c) w2 b2 mx (argX m c)
  have hw : argW2 m c = fun a => (w2 a : EReal) := funext hw2
  have hk : ∀ i, kerExp m c i = ((κ * e i : ℝ) : EReal) := fun i => by
    unfold kerExp shift
    rw [hw, hb2]
    exact hker i
  have hr : ∀ i, Ideal.exp (Cert.ReferenceIdeal.Proof.rowScore (argW1 m c) (argB1 m c) (argW2 m c) (argB2 m c) (argX m c i)
      - (mx : EReal)) = ((e i : ℝ) : EReal) := fun i => by
    rw [hw, hb2]
    exact href i
  rw [kernel_out, gridL_eq, gridA_eq]
  simp only [hk]
  rw [Cert.SoftmaxIdentity.segment_mean (fun i => argIds m c i = BitVec.ofNat 32 g.val) e he κ hκ (fun i => argX m c i d)]
  unfold refResult
  rw [Cert.ReferenceIdeal.Proof.result_apply, Cert.ReferenceIdeal.Proof.total_apply, hmx]
  simp only [Cert.ReferenceIdeal.Proof.score_apply]
  simp only [← hr]
  rfl

/-- The two results agree, under the precondition. -/
theorem tie [Cert.Pre_head_is_finite.Facts] (hpre : Pre_KernelIdeal_head_is_finite m) :
    refResult m c = Cert.KernelIdeal.Value.G6 m c := by
  funext j
  have hj : j = ix2 (j 0) (j 1) := eq_ix2 j
  rw [hj]
  exact tie_at m c (fun a => head_real _ _ _ _ _ _ (hpre c).1 a) (offset_real _ _ _ _ _ _ (hpre c).2) (j 0) (j 1)

end Cert.Tie
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Tie
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments and leaves every counter at zero, from any memory. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's where the head is finite. -/
theorem algebraic [Cert.Pre_head_is_finite.Facts] : algebraic_KernelIdeal_ReferenceIdeal_pre_head_is_finite := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v46_eq m' c).trans ?_)
  obtain ⟨h0, h1, h2, h3, h4, h5⟩ := hagree c
  refine Eq.trans ?_ (Cert.Tie.tie m c hpre)
  unfold Cert.Tie.refResult
  rw [h0, h1, h2, h3, h4, h5]

theorem claim : Cert.Claim := ⟨Cert.Kernel.Gen.facts, Cert.KernelIdeal.Gen.facts, Cert.ReferenceIdeal.Gen.facts,
  Cert.Tie.preFacts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  (trivial : preserves_Kernel_KernelIdeal),
  letI := Cert.Tie.preFacts; algebraic⟩

end Cert.Proof

end
